-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v3) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4x10000x13x115 : Shape := ⟨4, ![4, 10000, 13, 115]⟩
abbrev S13x13 : Shape := ⟨2, ![13, 13]⟩
abbrev S_ : Shape := ⟨0, ![]⟩
abbrev S13x128 : Shape := ⟨2, ![13, 128]⟩
abbrev S1x1x13x128 : Shape := ⟨4, ![1, 1, 13, 128]⟩
abbrev S4x10000x13x128 : Shape := ⟨4, ![4, 10000, 13, 128]⟩
abbrev S1x1250x13x115 : Shape := ⟨4, ![1, 1250, 13, 115]⟩
abbrev S1x1250x13x128 : Shape := ⟨4, ![1, 1250, 13, 128]⟩
abbrev S1x1250x13x13 : Shape := ⟨4, ![1, 1250, 13, 13]⟩

abbrev nBuf : Space → Nat
  | .hbm => 7
  | .vmem => 5
  | .smem => 0
  | _ => 0

abbrev bufTy : (tb : Table) → Fin (tcTables nBuf tb) → BufTy
  | .hbm, ⟨0, _⟩ => ⟨S4x10000x13x115, .f32⟩
  | .hbm, ⟨1, _⟩ => ⟨S13x13, .f32⟩
  | .hbm, ⟨2, _⟩ => ⟨S_, .i32⟩
  | .hbm, ⟨3, _⟩ => ⟨S_, .f32⟩
  | .hbm, ⟨4, _⟩ => ⟨S13x128, .f32⟩
  | .hbm, ⟨5, _⟩ => ⟨S1x1x13x128, .f32⟩
  | .hbm, ⟨6, _⟩ => ⟨S4x10000x13x128, .f32⟩
  | .local _ .vmem, ⟨0, _⟩ => ⟨S1x1250x13x115, .f32⟩
  | .local _ .vmem, ⟨1, _⟩ => ⟨S1x1250x13x115, .f32⟩
  | .local _ .vmem, ⟨2, _⟩ => ⟨S1x1x13x128, .f32⟩
  | .local _ .vmem, ⟨3, _⟩ => ⟨S1x1250x13x128, .f32⟩
  | .local _ .vmem, ⟨4, _⟩ => ⟨S1x1250x13x128, .f32⟩
  | _, _ => ⟨S4x10000x13x115, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_call0_v0 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![4, 8], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x1250x13x115 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1x13x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x1250x13x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== ReferenceIdeal.lean ====
abbrev S4x10000x13x115 : Shape := ⟨4, ![4, 10000, 13, 115]⟩
abbrev S13x13 : Shape := ⟨2, ![13, 13]⟩
abbrev S13 : Shape := ⟨1, ![13]⟩
abbrev S4x10000x13 : Shape := ⟨3, ![4, 10000, 13]⟩
abbrev S_ : Shape := ⟨0, ![]⟩
abbrev S4x10000x13x1 : Shape := ⟨4, ![4, 10000, 13, 1]⟩
abbrev S1 : Shape := ⟨1, ![1]⟩
abbrev S1x1x1x1 : Shape := ⟨4, ![1, 1, 1, 1]⟩
abbrev S4x10000x13x13 : Shape := ⟨4, ![4, 10000, 13, 13]⟩
abbrev S4x10000x13x128 : Shape := ⟨4, ![4, 10000, 13, 128]⟩

abbrev nBuf : Space → Nat
  | .hbm => 28
  | .vmem => 0
  | .smem => 0
  | _ => 0

abbrev bufTy : (tb : Table) → Fin (tcTables nBuf tb) → BufTy
  | .hbm, ⟨0, _⟩ => ⟨S4x10000x13x115, .f32⟩
  | .hbm, ⟨1, _⟩ => ⟨S13x13, .f32⟩
  | .hbm, ⟨2, _⟩ => ⟨S13, .i32⟩
  | .hbm, ⟨3, _⟩ => ⟨S4x10000x13, .i32⟩
  | .hbm, ⟨4, _⟩ => ⟨S_, .i32⟩
  | .hbm, ⟨5, _⟩ => ⟨S4x10000x13, .i32⟩
  | .hbm, ⟨6, _⟩ => ⟨S4x10000x13, .i1⟩
  | .hbm, ⟨7, _⟩ => ⟨S_, .i32⟩
  | .hbm, ⟨8, _⟩ => ⟨S4x10000x13, .i32⟩
  | .hbm, ⟨9, _⟩ => ⟨S4x10000x13, .i32⟩
  | .hbm, ⟨10, _⟩ => ⟨S4x10000x13, .i32⟩
  | .hbm, ⟨11, _⟩ => ⟨S4x10000x13x1, .i32⟩
  | .hbm, ⟨12, _⟩ => ⟨S1, .i32⟩
  | .hbm, ⟨13, _⟩ => ⟨S_, .i32⟩
  | .hbm, ⟨14, _⟩ => ⟨S4x10000x13x1, .i32⟩
  | .hbm, ⟨15, _⟩ => ⟨S4x10000x13x1, .i1⟩
  | .hbm, ⟨16, _⟩ => ⟨S1x1x1x1, .i32⟩
  | .hbm, ⟨17, _⟩ => ⟨S4x10000x13x1, .i32⟩
  | .hbm, ⟨18, _⟩ => ⟨S4x10000x13x1, .i1⟩
  | .hbm, ⟨19, _⟩ => ⟨S4x10000x13x1, .i1⟩
  | .hbm, ⟨20, _⟩ => ⟨S_, .i1⟩
  | .hbm, ⟨21, _⟩ => ⟨S4x10000x13, .i1⟩
  | .hbm, ⟨22, _⟩ => ⟨S4x10000x13x13, .f32⟩
  | .hbm, ⟨23, _⟩ => ⟨S4x10000x13x13, .i1⟩
  | .hbm, ⟨24, _⟩ => ⟨S_, .f32⟩
  | .hbm, ⟨25, _⟩ => ⟨S4x10000x13x13, .f32⟩
  | .hbm, ⟨26, _⟩ => ⟨S4x10000x13x13, .f32⟩
  | .hbm, ⟨27, _⟩ => ⟨S4x10000x13x128, .f32⟩
  | _, _ => ⟨S4x10000x13x115, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_call0_c : Ref sig .tc := ⟨.hbm, 4, rfl⟩
abbrev main_call0_v0 : Ref sig .tc := ⟨.hbm, 5, rfl⟩
abbrev main_call0_v1 : Ref sig .tc := ⟨.hbm, 6, rfl⟩
abbrev main_call0_c_0 : Ref sig .tc := ⟨.hbm, 7, rfl⟩
abbrev main_call0_v2 : Ref sig .tc := ⟨.hbm, 8, rfl⟩
abbrev main_call0_v3 : Ref sig .tc := ⟨.hbm, 9, rfl⟩
abbrev main_call0_v4 : Ref sig .tc := ⟨.hbm, 10, rfl⟩
abbrev main_call0_v5 : Ref sig .tc := ⟨.hbm, 11, rfl⟩
abbrev main_call0_c_1 : Ref sig .tc := ⟨.hbm, 12, rfl⟩
abbrev main_call0_c_2 : Ref sig .tc := ⟨.hbm, 13, rfl⟩
abbrev main_call0_v6 : Ref sig .tc := ⟨.hbm, 14, rfl⟩
abbrev main_call0_v7 : Ref sig .tc := ⟨.hbm, 15, rfl⟩
abbrev main_call0_v8 : Ref sig .tc := ⟨.hbm, 16, rfl⟩
abbrev main_call0_v9 : Ref sig .tc := ⟨.hbm, 17, rfl⟩
abbrev main_call0_v10 : Ref sig .tc := ⟨.hbm, 18, rfl⟩
abbrev main_call0_v11 : Ref sig .tc := ⟨.hbm, 19, rfl⟩
abbrev main_call0_c_3 : Ref sig .tc := ⟨.hbm, 20, rfl⟩
abbrev main_call0_v12 : Ref sig .tc := ⟨.hbm, 21, rfl⟩
abbrev main_call0_v13 : Ref sig .tc := ⟨.hbm, 22, rfl⟩
abbrev main_call0_v14 : Ref sig .tc := ⟨.hbm, 23, rfl⟩
abbrev main_call0_cst : Ref sig .tc := ⟨.hbm, 24, rfl⟩
abbrev main_call0_v15 : Ref sig .tc := ⟨.hbm, 25, rfl⟩
abbrev main_v2 : Ref sig .tc := ⟨.hbm, 26, rfl⟩
abbrev main_v3 : Ref sig .tc := ⟨.hbm, 27, rfl⟩

abbrev nD : Nat := 1
abbrev τ : Topo := Topo.v7x

variable {F : FTy → Type} [FloatOps F]
-- ==== Proof.Joined.lean ====
/-
  The function that kernel and reference are both shown to compute, stated once over plain index shapes: the rows of
  the data, each followed by the row of the embedding table at its time step. Beside it stand what the two sides share: the pad value, and an
  array of 115 features followed by one of 13, read at an index.
-/
module

public import Idealize.ShloMosaic.PureOps.Ideal
public import Idealize.ShloMosaic.Lib.ValueIdx
public import Idealize.ShloMosaic.Lib.Pipeline.Value

@[expose] public section

namespace Cert.Joined

open Idealize.ShloMosaic Idealize.ShloMosaic.ValueIdx

variable {α : Type}

/-- Entry `(g, n, t, k)` of the joined array: the data's feature `k` when `k < 115`, and from there on entry
    `(t, k − 115)` of the table. -/
def joined (x : (⟨4, ![4, 10000, 13, 115]⟩ : Shape).Idx → α) (e : (⟨2, ![13, 13]⟩ : Shape).Idx → α) :
    (⟨4, ![4, 10000, 13, 128]⟩ : Shape).Idx → α := fun j =>
  if h : (j 3).val < 115 then x (ix4 (j 0) (j 1) (j 2) ⟨(j 3).val, h⟩)
  else e (ix2 (j 2) ⟨(j 3).val - 115, by have : (j 3).val < 128 := (j 3).isLt; omega⟩)

/-- The pad value of both pads, the integer zero converted, is the real zero. -/
theorem zero_word (φ : FTy) : (Scalar.sitofp φ (0#32) : Ideal φ) = (0 : EReal) := by
  rw [Ideal.scalar_sitofp_def]; norm_num

section Pair
variable {G N : Nat} (x : (⟨4, ![G, N, 13, 115]⟩ : Shape).Idx → α) (y : (⟨4, ![G, N, 13, 13]⟩ : Shape).Idx → α)
  (h : Shape.Concatenates [⟨4, ![G, N, 13, 115]⟩, ⟨4, ![G, N, 13, 13]⟩] ⟨4, ![G, N, 13, 128]⟩ 3)
  (j : (⟨4, ![G, N, 13, 128]⟩ : Shape).Idx)

/-- 115 features followed by 13 more, read below 115: the first array. -/
theorem pair_low (hj : (j 3).val < 115) :
    concatenate ⟨4, ![G, N, 13, 128]⟩ 3 [⟨⟨4, ![G, N, 13, 115]⟩, x⟩, ⟨⟨4, ![G, N, 13, 13]⟩, y⟩] h j
      = x (ix4 (j 0) (j 1) (j 2) ⟨(j 3).val, hj⟩) :=
  concatenate_pair_apply_left (s₁ := ⟨4, ![G, N, 13, 115]⟩) 3 x y h j rfl _ fun b => by
    match b with
    | ⟨0, _⟩ => rfl
    | ⟨1, _⟩ => rfl
    | ⟨2, _⟩ => rfl
    | ⟨3, _⟩ => rfl

/-- Read from 115 on: the second array, 115 further left. -/
theorem pair_high (k : Fin 13) (hk : k.val + 115 = (j 3).val) :
    concatenate ⟨4, ![G, N, 13, 128]⟩ 3 [⟨⟨4, ![G, N, 13, 115]⟩, x⟩, ⟨⟨4, ![G, N, 13, 13]⟩, y⟩] h j
      = y (ix4 (j 0) (j 1) (j 2) k) :=
  concatenate_pair_apply_right (s₁ := ⟨4, ![G, N, 13, 115]⟩) (s₂ := ⟨4, ![G, N, 13, 13]⟩) 3 x y h j rfl rfl
    (ix4 (j 0) (j 1) (j 2) k) (fun b hb => by
      match b with
      | ⟨0, _⟩ => rfl
      | ⟨1, _⟩ => rfl
      | ⟨2, _⟩ => rfl
      | ⟨3, _⟩ => exact absurd rfl hb) hk

end Pair

end Cert.Joined
-- ==== Proof.Table.lean ====
/-
  What the kernel finds in its second operand: the embedding table with 115 columns of zeros before it. The three
  host operations before the launch are read back, and the padded array is read at an index.
-/
module

public import proofs.«01_k».proof.Proof.Gen.KernelIdeal.Frame
public import proofs.«01_k».proof.Proof.Joined
public import Idealize.ShloMosaic.Lib.StableHlo.Run
public import Idealize.ShloMosaic.Lib.Pipeline.Value
public import Idealize.ShloMosaic.Lib.KernelVsHost

@[expose] public section

noncomputable section

namespace Cert.Table

open Cert.KernelIdeal Cert.KernelIdeal.Gen Idealize.ShloMosaic Idealize.ShloMosaic.TcCoe Idealize.SL.Sem
open Idealize.ShloMosaic.ValueIdx Idealize.ShloMosaic.StableHlo

variable (m : (ℓ : Loc nD τ sig) → Buf (Elt Ideal) ℓ)

/-- The 13 × 128 array: the table behind 115 columns of the converted integer zero. -/
abbrev padded (e : FVec Ideal S13x13 .f32) : FVec Ideal S13x128 .f32 :=
  pad S13x128 ![0, 115] ![0, 0] ![0, 0] e (sitofp .f32 (constantI S_ 32 0#32)) pads_S13x13_S13x128_000_11500 h_S_

/-- When the launch begins, the second operand is the padded table under two unit axes. -/
theorem entry_table (c : Dev nD) :
    V m c main_v1 = broadcastInDim S1x1x13x128 ![2, 3] bcast_S13x128_S1x1x13x128_2_3
      (padded (m ((c : Thread nD τ).loc main_arg1))) := by
  simp only [V, hostOps0, hostOps0_1, hostOps0_2, List.flatten_cons, List.flatten_nil, List.append_nil,
    List.cons_append, List.nil_append, TRef.binary, TRef.unary, TRef.toBuf, TRef.ofBuf, cast_eq]
  after_results <;> rfl

/-- A column of the padded table below 115 holds zero. -/
theorem padded_low (e : FVec Ideal S13x13 .f32) (j : S13x128.Idx) (h : (j 1).val < 115) :
    padded e j = (0 : EReal) := by
  refine (pad_apply_of_not_inside _ _ _ e _ _ _ j (1 : Fin 2) fun hin => ?_).trans (Joined.zero_word .f32)
  have : 115 ≤ (j 1).val := hin.1
  omega

/-- Column `115 + k` of the padded table is column `k` of the table. -/
theorem padded_high (e : FVec Ideal S13x13 .f32) (j : S13x128.Idx) (k : S13x13.Idx)
    (h0 : (k 0).val = (j 0).val) (h1 : (k 1).val + 115 = (j 1).val) : padded e j = e k := by
  refine pad_apply_of_inside _ _ _ e _ _ _ j k fun a => ?_
  match a with
  | ⟨0, _⟩ => show (j 0).val = 0 + (k 0).val * (0 + 1); omega
  | ⟨1, _⟩ => show (j 1).val = 115 + (k 1).val * (0 + 1); omega

/-- The second operand read at an index is the padded table at the last two coordinates. -/
theorem entry_table_apply (c : Dev nD) (j : S1x1x13x128.Idx) :
    V m c main_v1 j = padded (m ((c : Thread nD τ).loc main_arg1)) (ix2 (j 2) (j 3)) := by
  rw [entry_table]
  refine broadcastInDim_apply _ _ _ j _ fun a => ?_
  match a with
  | ⟨0, _⟩ => rfl
  | ⟨1, _⟩ => rfl

end Cert.Table

end
-- ==== Proof.Block.lean ====
/-
  What one grid point computes: the body's payload, read at an index of its (1, 1250, 13, 128) block.
-/
module

public import proofs.«01_k».proof.Proof.Gen.KernelIdeal.Frame
public import proofs.«01_k».proof.Proof.Joined
public import Idealize.ShloMosaic.Lib.Pipeline.Value

@[expose] public section

noncomputable section

namespace Cert.Block

open Cert.KernelIdeal Cert.KernelIdeal.Gen Idealize.ShloMosaic
open Idealize.ShloMosaic.ValueIdx

/-- What the body stores, at any index: the data block padded with zeros on the right, plus the table block's
    entry at the last two coordinates. -/
theorem pay_apply (x : FVec Ideal S1x1250x13x115 .f32) (e : FVec Ideal S1x1x13x128 .f32) (j : S1x1250x13x128.Idx) :
    k0_pay1 (F := Ideal) x e j = (concatenate S1x1250x13x128 3 [⟨S1x1250x13x115, x⟩,
        ⟨S1x1250x13x13, broadcast S1x1250x13x13 (Scalar.sitofp .f32 0#32 : Ideal .f32)⟩]
        concatenates_S1x1250x13x115_S1x1250x13x13_S1x1250x13x128_d3 j : EReal)
      + e (ix4 0 0 (j 2) (j 3)) := by
  have hb : broadcastTo S1x1250x13x128 e broadcasts_S1x1x13x128_S1x1250x13x128 j = e (ix4 0 0 (j 2) (j 3)) := by
    refine broadcastTo_apply e _ j _ fun a => ?_
    match a with
    | ⟨0, _⟩ => rfl
    | ⟨1, _⟩ => rfl
    | ⟨2, _⟩ => rfl
    | ⟨3, _⟩ => rfl
  show (_ : EReal) + (broadcastTo S1x1250x13x128 (shapeCast S1x1x13x128 e _) _ j) = _
  rw [shapeCast_self, hb]

/-- Where the feature index is below 115 and the table block holds zero, the body stores the data. -/
theorem pay_low (x : FVec Ideal S1x1250x13x115 .f32) (e : FVec Ideal S1x1x13x128 .f32) (j : S1x1250x13x128.Idx)
    (h : (j 3).val < 115) (he : e (ix4 0 0 (j 2) (j 3)) = (0 : EReal)) :
    k0_pay1 (F := Ideal) x e j = x (ix4 (j 0) (j 1) (j 2) ⟨(j 3).val, h⟩) := by
  rw [pay_apply, he]
  exact (add_zero (M := EReal) _).trans (Joined.pair_low x _ _ j h)

/-- From feature index 115 on it stores the table block's entry. -/
theorem pay_high (x : FVec Ideal S1x1250x13x115 .f32) (e : FVec Ideal S1x1x13x128 .f32) (j : S1x1250x13x128.Idx)
    (h : 115 ≤ (j 3).val) : k0_pay1 (F := Ideal) x e j = e (ix4 0 0 (j 2) (j 3)) := by
  have h128 : (j 3).val < 128 := (j 3).isLt
  rw [pay_apply, Joined.pair_high x _ _ j ⟨(j 3).val - 115, by omega⟩ (Nat.sub_add_cancel h)]
  show (Scalar.sitofp .f32 0#32 : Ideal .f32) + _ = _
  rw [Joined.zero_word]
  exact zero_add (M := EReal) _

/-- What the body leaves in the output window's staging buffer is that payload of the two staged blocks. -/
theorem out_eq (x : FVec Ideal S1x1250x13x115 .f32) (e : FVec Ideal S1x1x13x128 .f32) :
    out0_2 (F := Ideal) x e = k0_pay1 (F := Ideal) x e := by
  have hz : (![0, 0, 0, 0] : Fin 4 → Nat) = fun _ => 0 := funext fun a => by fin_cases a <;> rfl
  unfold out0_2
  rw [View.canon_unit_zero hz, View.ld_unit_zero hz, View.ld_unit_zero hz]

end Cert.Block

end
-- ==== Proof.Whole.lean ====
/-
  The kernel's result array. A grid point `(g, i)` writes back nodes `1250 i … 1250 i + 1249` of graph `g` of the
  joined array; the 32 blocks tile the result, so it ends as the joined array of the two arguments.
-/
module

public import proofs.«01_k».proof.Proof.Gen.KernelIdeal.Value
public import proofs.«01_k».proof.Proof.Table
public import proofs.«01_k».proof.Proof.Block

@[expose] public section

noncomputable section

namespace Cert.Whole

open Cert.KernelIdeal Cert.KernelIdeal.Gen Idealize.ShloMosaic Idealize.ShloMosaic.TcCoe Idealize.SL.Sem
open Idealize.ShloMosaic.ValueIdx
open Idealize.ShloMosaic.Pipeline (Dat Window)

variable (m : (ℓ : Loc nD τ sig) → Buf (Elt Ideal) ℓ) (ρ : Dev nD → PrngReg)

/-- The joined array of device `c`'s two arguments. -/
abbrev goal (c : Dev nD) : Buf (Elt Ideal) ((c : Thread nD τ).loc main_v2) :=
  Joined.joined (m ((c : Thread nD τ).loc main_arg0)) (m ((c : Thread nD τ).loc main_arg1))

/-- At every grid point the data window and the result window are at the same block, block 0 on the last two axes,
    and the table window is at block 0. -/
theorem index_facts : ∀ t : Fin cfg0.N, (∀ a : Fin 4, win0_0.index t a = win0_2.index t a)
    ∧ win0_2.index t 2 = 0 ∧ win0_2.index t 3 = 0 ∧ win0_1.index t 2 = 0 ∧ win0_1.index t 3 = 0 := by
  show ∀ t : Fin grid0.N, _
  decide +kernel

/-- The result window at point `8 g + i` is at block `(g, i)`. -/
theorem index_point : ∀ (g : Fin 4) (i : Fin 8), ∃ t : Fin cfg0.N, win0_2.index t 0 = g.val ∧ win0_2.index t 1 = i.val := by
  show ∀ (g : Fin 4) (i : Fin 8), ∃ t : Fin grid0.N, _
  decide +kernel

/-- The table block staged at any point is the padded table. -/
theorem table_block (c : Dev nD) (t : Fin cfg0.N) (p : Fin 13) (q : Fin 128) :
    iblk m c 1 t (ix4 (n0 := 1) (n1 := 1) 0 0 p q) = Table.padded (m ((c : Thread nD τ).loc main_arg1)) (ix2 p q) := by
  obtain ⟨-, -, -, h2, h3⟩ := index_facts t
  refine (Table.entry_table_apply m c ((win0_1.rect t).emb (ix4 (n0 := 1) (n1 := 1) 0 0 p q))).trans
    (congrArg _ (Shape.idx_ext₂ ?_ ?_))
  · exact win0_1.rect_emb_val_of_index_zero t 2 h2 _
  · exact win0_1.rect_emb_val_of_index_zero t 3 h3 _

/-- The data block staged at point `t` is the data at the block's place. -/
theorem data_block (c : Dev nD) (t : Fin cfg0.N) (y : S1x1250x13x115.Idx) :
    iblk m c 0 t y = m ((c : Thread nD τ).loc main_arg0) ((win0_0.rect t).emb y) :=
  congrFun (V_main_arg0 m c) _

/-- The body's payload at point `t` is the joined array at the block's place. -/
theorem pay_eq (c : Dev nD) (t : Fin cfg0.N) (y : S1x1250x13x128.Idx) :
    k0_pay1 (F := Ideal) (iblk m c 0 t) (iblk m c 1 t) y = goal m c ((win0_2.rect t).emb y) := by
  obtain ⟨h02, h2, h3, -, -⟩ := index_facts t
  have e2 : (((win0_2.rect t).emb y 2 : Fin _) : Nat) = (y 2).val := win0_2.rect_emb_val_of_index_zero t 2 h2 y
  have e3 : (((win0_2.rect t).emb y 3 : Fin _) : Nat) = (y 3).val := win0_2.rect_emb_val_of_index_zero t 3 h3 y
  have tb := table_block m c t (y 2) (y 3)
  unfold goal Joined.joined
  by_cases h : (y 3).val < 115
  · rw [dif_pos (e3.trans_lt h), Block.pay_low _ _ y h (tb.trans (Table.padded_low _ _ h)), data_block]
    refine congrArg _ (funext fun a => Fin.ext ?_)
    rw [win0_0.rect_emb_val t _ a, h02 a]
    match a with
    | ⟨0, _⟩ => exact (win0_2.rect_emb_val t y 0).symm
    | ⟨1, _⟩ => exact (win0_2.rect_emb_val t y 1).symm
    | ⟨2, _⟩ => exact (win0_2.rect_emb_val t y 2).symm
    | ⟨3, _⟩ => rw [show win0_2.index t ⟨3, _⟩ = 0 from h3, Nat.zero_mul, Nat.zero_add]; exact e3.symm
  · have hlt : (y 3).val < 128 := (y 3).isLt
    rw [dif_neg (fun hh => h (e3.symm.trans_lt hh)), Block.pay_high _ _ y (Nat.le_of_not_lt h), tb]
    refine Table.padded_high _ _ _ e2 ?_
    show ((win0_2.rect t).emb y 3 : Nat) - 115 + 115 = (y 3).val
    rw [e3]; omega

/-- What point `t` writes back is its block of the joined array. -/
theorem flushed_eq (c : Dev nD) (t : Fin cfg0.N) :
    (dats m 0 c).flushed 2 t = ((cfg0.win 2).blk t).view.read (Elt Ideal) (goal m c) := by
  rw [KernelIdeal.Value.flushed2, Block.out_eq]
  exact funext fun y => pay_eq m c t y

/-- Every index of the result lies in some point's block. -/
theorem cover (j : S4x10000x13x128.Idx) :
    ∃ t : Fin cfg0.N, (cfg0.win 2).flush t = true ∧ j ∈ ((cfg0.win 2).blk t).view.set := by
  have h0 : (j 0).val < 4 := (j 0).isLt
  have h1 : (j 1).val < 10000 := (j 1).isLt
  have h2 : (j 2).val < 13 := (j 2).isLt
  have h3 : (j 3).val < 128 := (j 3).isLt
  obtain ⟨t, i0, i1⟩ := index_point ⟨(j 0).val, h0⟩ ⟨(j 1).val / 1250, by omega⟩
  obtain ⟨-, i2, i3, -, -⟩ := index_facts t
  refine ⟨t, flush0_2 t, ?_⟩
  show j ∈ ((View.whole main_v2).slice (win0_2.rect t)).set
  rw [View.set_slice_whole, Rect.mem_set_unit]
  intro a
  match a with
  | ⟨0, _⟩ => show win0_2.index t 0 * 1 ≤ (j 0).val ∧ (j 0).val < win0_2.index t 0 * 1 + 1; simp only [i0]; omega
  | ⟨1, _⟩ => show win0_2.index t 1 * 1250 ≤ (j 1).val ∧ (j 1).val < win0_2.index t 1 * 1250 + 1250; simp only [i1]; omega
  | ⟨2, _⟩ => show win0_2.index t 2 * 13 ≤ (j 2).val ∧ (j 2).val < win0_2.index t 2 * 13 + 13; simp only [i2]; omega
  | ⟨3, _⟩ => show win0_2.index t 3 * 128 ≤ (j 3).val ∧ (j 3).val < win0_2.index t 3 * 128 + 128; simp only [i3]; omega

/-- So the result array ends as the joined array. -/
theorem final (c : Dev nD) : (dats m 0 c).arrAt 2 cfg0.N = goal m c :=
  (dats m 0 c).arrAt_eq_of_cover 2 (goal m c) (fun t _ => flushed_eq m c t) cover

/-- The kernel's run: its result is the joined array and its arguments are unchanged. -/
theorem run : θ_run defs (onTc (τ := τ) (main (F := Ideal))) ⟨m, fun _ => 0, ρ⟩ fun r => ∀ c : Dev nD,
      r.2.mem ((c : Thread nD τ).loc main_v2) = goal m c
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c => ⟨(h c).1.trans (final m c), (h c).2⟩) (KernelIdeal.Value.run_blocks m ρ)

end Cert.Whole

end
-- ==== Proof.Lookup.lean ====
/-
  What the reference computes: the time indices are in range, so the lookup's wrap of negative indices changes none
  of them and its mask is set everywhere; the gather then reads the table's row of the time step, and the
  concatenation is the joined array.
-/
module

public import proofs.«01_k».proof.Proof.Gen.ReferenceIdeal.Run
public import proofs.«01_k».proof.Proof.Joined
public import Idealize.ShloMosaic.Lib.Pipeline.Value
public import Idealize.ShloMosaic.Lib.ReduceAll

@[expose] public section

noncomputable section

namespace Cert.Lookup

open Cert.ReferenceIdeal Cert.ReferenceIdeal.Gen Idealize.ShloMosaic Idealize.ShloMosaic.TcCoe Idealize.SL.Sem
open Idealize.ShloMosaic.ValueIdx

/-- The time indices: entry `(g, n, t)` is `t`. -/
abbrev times : IVec S4x10000x13 32 :=
  broadcastInDim S4x10000x13 ![2] bcast_S13_S4x10000x13_2 (iotaInDim S13 32 0)

/-- The time indices with 13 added to the negative ones, under a trailing unit axis: the gather's start indices. -/
abbrev starts : IVec S4x10000x13x1 32 :=
  broadcastInDim S4x10000x13x1 ![0, 1, 2] bcast_S4x10000x13_S4x10000x13x1_0_1_2
    (select (cmpi .slt times (broadcastInDim S4x10000x13 ![] bcast_S_S4x10000x13 (constantI S_ 32 0#32)))
      (addi times (broadcastInDim S4x10000x13 ![] bcast_S_S4x10000x13 (constantI S_ 32 13#32))) times)

/-- Where a start index lies in `[0, 12]`. -/
abbrev inRange : IVec S4x10000x13x1 1 :=
  andi (cmpi .sge starts (broadcastInDim S4x10000x13x1 ![] bcast_S_S4x10000x13x1 (constantI S_ 32 0#32)))
    (cmpi .sle starts (broadcastInDim S4x10000x13x1 ![0, 1, 2, 3] bcast_S1x1x1x1_S4x10000x13x1_0_1_2_3
      (broadcastInDim S1x1x1x1 ![3] bcast_S1_S1x1x1x1_3 (constantI S1 32 12#32))))

/-- The lookup: the gathered rows where the mask is set, the fill value elsewhere. -/
abbrev looked (e : FVec Ideal S13x13 .f32) : FVec Ideal S4x10000x13x13 .f32 :=
  select (broadcastInDim S4x10000x13x13 ![0, 1, 2] bcast_S4x10000x13_S4x10000x13x13_0_1_2
      (Host.reduce IntOp.andi inRange (constantI S_ 1 1#1) reducesTo_S4x10000x13x1_S4x10000x13_d3 h_S_))
    (Host.gather gather_S13x13_S4x10000x13x1_S4x10000x13x13_3_0_n_n_0_3_113 e starts)
    (broadcastInDim S4x10000x13x13 ![] bcast_S_S4x10000x13x13 (constant S_ .f32 0x7FC00000#32))

/-- The wrap of a time index below 13, and the mask's two comparisons of it: the index itself, in range. -/
theorem word_facts : ∀ t : Fin 13,
    Scalar.select (IntOp.cmpi .slt (BitVec.ofNat 32 t.val) 0#32) (BitVec.ofNat 32 t.val + 13#32) (BitVec.ofNat 32 t.val)
        = BitVec.ofNat 32 t.val
    ∧ IntOp.andi (IntOp.cmpi .sge (BitVec.ofNat 32 t.val) 0#32) (IntOp.cmpi .sle (BitVec.ofNat 32 t.val) 12#32) = 1#1
    ∧ min (BitVec.ofNat 32 t.val).toInt.toNat 12 = t.val := by
  decide

/-- Start index `(g, n, t, 0)` is `t`. -/
theorem starts_apply (i : S4x10000x13x1.Idx) : starts i = BitVec.ofNat 32 (i 2).val :=
  (word_facts (i 2)).1

/-- Every start index is in range. -/
theorem inRange_apply (i : S4x10000x13x1.Idx) : inRange i = 1#1 := by
  show IntOp.andi (IntOp.cmpi .sge (starts i) 0#32) (IntOp.cmpi .sle (starts i) 12#32) = 1#1
  rw [starts_apply]
  exact (word_facts (i 2)).2.1

/-- The gather reads row `t`, column `k` of the table at `(g, n, t, k)`. -/
theorem gather_apply (e : FVec Ideal S13x13 .f32) (j : S4x10000x13x13.Idx) :
    Host.gather gather_S13x13_S4x10000x13x1_S4x10000x13x13_3_0_n_n_0_3_113 e starts j = e (ix2 (j 2) (j 3)) := by
  refine congrArg e (Shape.idx_ext₂ ?_ ?_)
  · show GatherDims.start _ j starts 0 + 0 + 0 = (j 2).val
    show min (starts _).toInt.toNat 12 = (j 2).val
    rw [starts_apply]
    exact (word_facts (j 2)).2.2
  · show 0 + 0 + (j 3).val = (j 3).val
    omega

/-- The lookup reads row `t` of the table at every graph and node. -/
theorem looked_apply (e : FVec Ideal S13x13 .f32) (j : S4x10000x13x13.Idx) : looked e j = e (ix2 (j 2) (j 3)) := by
  have hm : broadcastInDim S4x10000x13x13 ![0, 1, 2] bcast_S4x10000x13_S4x10000x13x13_0_1_2
      (Host.reduce IntOp.andi inRange (constantI S_ 1 1#1) reducesTo_S4x10000x13x1_S4x10000x13_d3 h_S_) j = 1#1 :=
    Host.reduce_andi_one inRange _ _ _ _ rfl inRange_apply
  show Scalar.select (broadcastInDim S4x10000x13x13 ![0, 1, 2] bcast_S4x10000x13_S4x10000x13x13_0_1_2
      (Host.reduce IntOp.andi inRange (constantI S_ 1 1#1) reducesTo_S4x10000x13x1_S4x10000x13_d3 h_S_) j) _ _ = _
  rw [hm, select_one, gather_apply]

/-- The reference's concatenation of data and lookup is the joined array. -/
theorem joined_eq (x : FVec Ideal S4x10000x13x115 .f32) (e : FVec Ideal S13x13 .f32) :
    concatenate S4x10000x13x128 3 [⟨S4x10000x13x115, x⟩, ⟨S4x10000x13x13, looked e⟩]
      concatenates_S4x10000x13x115_S4x10000x13x13_S4x10000x13x128_d3 = Joined.joined x e := by
  funext j
  have h128 : (j 3).val < 128 := (j 3).isLt
  unfold Joined.joined
  by_cases h : (j 3).val < 115
  · rw [dif_pos h]
    exact Joined.pair_low x (looked e) _ j h
  · rw [dif_neg h]
    exact (Joined.pair_high x (looked e) _ j ⟨(j 3).val - 115, by omega⟩
      (Nat.sub_add_cancel (Nat.le_of_not_lt h))).trans (looked_apply e _)

/-- The reference's run: its result is the joined array and its arguments are unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v3)
        = Joined.joined (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c).1.trans (joined_eq _ _), (h c).2⟩) (ReferenceIdeal.Value.run m ρ)

end Cert.Lookup

end
-- ==== Proof.lean ====
/-
  The certificate, assembled: the frames of the kernel, of its ideal reading and of the reference, and the value
  claim that kernel and reference both compute the joined array (Proof/Joined.lean) of the same two arguments.
-/
module

public import proofs.«01_k».proof.Proof.Gen.KernelIdeal.Value
public import proofs.«01_k».proof.Proof.Gen.ReferenceIdeal.Run
public import proofs.«01_k».proof.Proof.Whole
public import proofs.«01_k».proof.Proof.Lookup
public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import Idealize.ShloMosaic.Adequacy
public import Idealize.ShloMosaic.Lib.Quiescent
public import Idealize.ShloMosaic.Init

@[expose] public section

noncomputable section

namespace Cert.Proof

open Idealize.ShloMosaic Idealize.SL.Sem Cert.Kernel

/-- The reference's frame: its run read at the arguments; it has no semaphore. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.Lookup.run m ρ)

/-- Kernel and reference end with the same result from the same arguments: the joined array. -/
theorem algebraic : Cert.algebraic_KernelIdeal_ReferenceIdeal := fun m ρ m' ρ' _ hagree =>
  ⟨Cert.Whole.goal m, Cert.Whole.run m ρ,
    (θ_run Cert.ReferenceIdeal.defs _ _).mono
      (fun _ h c => ⟨(h c).1.trans (congrArg₂ Cert.Joined.joined (hagree c).1 (hagree c).2), (h c).2⟩)
      (Cert.Lookup.run m' ρ')⟩

/-- All five claims. -/
theorem claim : Cert.Claim := ⟨Cert.Kernel.Gen.facts, Cert.KernelIdeal.Gen.facts, Cert.ReferenceIdeal.Gen.facts,
  fun m ρ _ => Cert.Kernel.Gen.frame m ρ, fun m ρ _ => Cert.KernelIdeal.Gen.frame m ρ, frame_reference, trivial,
  algebraic⟩

end Cert.Proof

end
